-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S100000x512 : Shape := ⟨2, ![100000, 512]⟩
abbrev S64x512 : Shape := ⟨2, ![64, 512]⟩
abbrev S_ : Shape := ⟨0, ![]⟩
abbrev S1x512 : Shape := ⟨2, ![1, 512]⟩

abbrev nBuf : Table → Nat
  | .hbm => 2
  | _ => 0

abbrev bufTy : (tb : Table) → Fin (nBuf tb) → BufTy
  | .hbm, ⟨0, _⟩ => ⟨S100000x512, .f32⟩
  | .hbm, ⟨1, _⟩ => ⟨S64x512, .f32⟩
  | _, _ => ⟨S100000x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S100000x512 : Shape := ⟨2, ![100000, 512]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x512 : Shape := ⟨2, ![64, 512]⟩

abbrev nBuf : Space → Nat
  | .hbm => 28
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S1, .i32⟩
  | .hbm, ⟨14, _⟩ => ⟨S_, .i32⟩
  | .hbm, ⟨15, _⟩ => ⟨S64x1, .i32⟩
  | .hbm, ⟨16, _⟩ => ⟨S64x1, .i1⟩
  | .hbm, ⟨17, _⟩ => ⟨S1x1, .i32⟩
  | .hbm, ⟨18, _⟩ => ⟨S64x1, .i32⟩
  | .hbm, ⟨19, _⟩ => ⟨S64x1, .i1⟩
  | .hbm, ⟨20, _⟩ => ⟨S64x1, .i1⟩
  | .hbm, ⟨21, _⟩ => ⟨S_, .i1⟩
  | .hbm, ⟨22, _⟩ => ⟨S64, .i1⟩
  | .hbm, ⟨23, _⟩ => ⟨S64x512, .f32⟩
  | .hbm, ⟨24, _⟩ => ⟨S64x512, .i1⟩
  | .hbm, ⟨25, _⟩ => ⟨S_, .f32⟩
  | .hbm, ⟨26, _⟩ => ⟨S64x512, .f32⟩
  | .hbm, ⟨27, _⟩ => ⟨S64x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Rows.lean ====
/-
  The kernel's rows and the kernel as two counted lists of statements: 64 copies issued, copy `i` from row `1543 * i` of
  the table to row `i` of the result, then 64 waits. `gather_eq` says the printed kernel, which spells the 128 statements
  out, is that program; the run's proof (Proof/Run.lean) is then by induction on the count.
-/
module

public import proofs.«01_k».proof.Defs
public import proofs.«01_k».proof.Proof.Gen.KernelIdeal
public import proofs.«01_k».proof.Proof.Gen.KernelIdeal.Skeleton
public import Idealize.ShloMosaic.Lib.Batch

@[expose] public section

noncomputable section

namespace Cert.Proof.Gather

open Cert.KernelIdeal Cert.KernelIdeal.Gen
open Idealize.ShloMosaic Idealize.SL.Sem

variable {F : FTy → Type} [FloatOps F]

/-- Row `1543 * i` lies inside the table. -/
theorem src_inb (i : Fin 64) : ∀ a, (![1543 * i.val, 0] : Fin 2 → ℕ) a + S1x512.size a ≤ S100000x512.size a :=
  Rect.inb₂ (show 1543 * i.val + 1 ≤ 100000 by omega) (show 0 + 512 ≤ 512 by omega)

/-- Row `i` lies inside the result. -/
theorem dst_inb (i : Fin 64) : ∀ a, (![i.val, 0] : Fin 2 → ℕ) a + S1x512.size a ≤ S64x512.size a :=
  Rect.inb₂ (show i.val + 1 ≤ 64 by omega) (show 0 + 512 ≤ 512 by omega)

/-- Row `1543 * i` of the table, as a rectangle. -/
abbrev srcRect (i : Fin 64) : Rect S100000x512 := Rect.unit (s := S100000x512) ![1543 * i.val, 0] S1x512.size (src_inb i)
/-- Row `i` of the result, as a rectangle. -/
abbrev dstRect (i : Fin 64) : Rect S64x512 := Rect.unit (s := S64x512) ![i.val, 0] S1x512.size (dst_inb i)

/-- The table and the result as the sequencer addresses them. -/
abbrev xM : Memref sig .scScalar .hbm S100000x512 .f32 := Memref.whole main_arg0_scs
abbrev oM : Memref sig .scScalar .hbm S64x512 .f32 := Memref.whole main_v0_scs

/-- What copy `i` reads: row `1543 * i` of the table. -/
abbrev srcRow (i : Fin 64) : Memref sig .scScalar .hbm S1x512 .f32 := xM.slice (srcRect i) (fun _ => rfl)
/-- Where copy `i` writes: row `i` of the result. -/
abbrev dstRow (i : Fin 64) : Memref sig .scScalar .hbm S1x512 .f32 := oM.slice (dstRect i) (fun _ => rfl)

/-- The programs of scalar subcore `c`. -/
abbrev ScProg (F : FTy → Type) (c : Fin τ.nSC) : Type _ := Prog (TpuEff nD τ sig (Elt F) Λ₀ (.scScalar c)) PUnit

/-- The last `n` of the 64 copies issued, in order, then `rest`. -/
def issues (c : Fin τ.nSC) (rest : ScProg F c) : (n : ℕ) → n ≤ 64 → ScProg F c
  | 0, _ => rest
  | n + 1, h =>
    .op (.enqueueDma (srcRow ⟨64 - (n + 1), by omega⟩) (.here (dstRow ⟨64 - (n + 1), by omega⟩)) (.dma cc0_scratch0.sem)
      (View.wordExact_bits rfl) (View.wordExact_bits rfl) ⟨Or.inl rfl, trivial⟩) fun _ => issues c rest n (by omega)

/-- The last `n` of the 64 waits, in order, then the return. -/
def waits (c : Fin τ.nSC) : (n : ℕ) → n ≤ 64 → ScProg F c
  | 0, _ => .ret ⟨⟩
  | n + 1, h =>
    .op (.waitDma2 cc0_scratch0.sem (srcRow ⟨64 - (n + 1), by omega⟩) (dstRow ⟨64 - (n + 1), by omega⟩)
      (View.wordExact_bits rfl) (View.wordExact_bits rfl)) fun _ => waits c n (by omega)

set_option maxRecDepth 100000 in
/-- The printed kernel issues the 64 copies, then waits 64 times. -/
theorem gather_eq (L : grid0.Coords) :
    cc0_sc_gather (F := F) L xM (Memref.isWhole_whole _) oM (Memref.isWhole_whole _) cc0_scratch0
      = issues ((L 0).castLE hcore0) (waits _ 64 le_rfl) 64 le_rfl := rfl

end Cert.Proof.Gather

end
-- ==== Proof.Body.lean ====
/-
  The kernel's body on the sequencer: from the table and the result whole, 64 copies issued on one DMA semaphore and
  waited for, to the table unchanged and the result holding the gathered rows. The 64 copies are one batch
  (Lib/Batch.lean): copy `i`'s delivery is row `i` of the result at its gathered contents and row `1543 * i` of the table
  back. The issues and the waits are each one induction on their count.
-/
module

public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers (Batch pending bigSep_pending_zero bigSep_pending_step)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The value -/

/-- The table's element that the result's element at `j` is a copy of: row `1543 * j₀`, the same column. -/
def srcIdx (j : S64x512.Idx) : S100000x512.Idx := fun
  | 0 => ⟨1543 * (j 0).val, show 1543 * (j 0).val < 100000 by have : (j 0).val < 64 := (j 0).isLt; omega⟩
  | 1 => j 1

/-- The 64 rows of `x` numbered by the multiples of 1543. -/
def gathered {α : Type} (x : S100000x512.Idx → α) : S64x512.Idx → α := fun j => x (srcIdx j)

/-! ## The rows as sets of elements -/

/-- The elements of row `1543 * i` of the table, and of row `i` of the result. -/
abbrev srcSet (i : Fin 64) : Finset S100000x512.Idx := (srcRect i).set
abbrev dstSet (i : Fin 64) : Finset S64x512.Idx := (dstRect i).set

theorem srcSet_disjoint {i j : Fin 64} (h : i ≠ j) : Disjoint (srcSet i) (srcSet j) :=
  Rect.unit_disjoint (s := S100000x512) 0 (by
    have : i.val ≠ j.val := fun e => h (Fin.ext e)
    show 1543 * i.val + 1 ≤ 1543 * j.val ∨ 1543 * j.val + 1 ≤ 1543 * i.val
    omega)

theorem dstSet_disjoint {i j : Fin 64} (h : i ≠ j) : Disjoint (dstSet i) (dstSet j) :=
  Rect.unit_disjoint (s := S64x512) 0 (by
    have : i.val ≠ j.val := fun e => h (Fin.ext e)
    show i.val + 1 ≤ j.val ∨ j.val + 1 ≤ i.val
    omega)

/-- The 64 rows are the whole result. -/
theorem dstSet_cover : (Finset.univ : Finset (Fin 64)).biUnion dstSet = Finset.univ := by
  ext j
  simp only [Finset.mem_biUnion, Finset.mem_univ, true_and, iff_true]
  refine ⟨⟨(j 0).val, (j 0).isLt⟩, Rect.mem_set_unit.mpr (Fin.forall_fin_two.mpr ⟨?_, ?_⟩)⟩
  · show (j 0).val ≤ (j 0).val ∧ (j 0).val < (j 0).val + 1
    omega
  · have : (j 1).val < 512 := (j 1).isLt
    show 0 ≤ (j 1).val ∧ (j 1).val < 0 + 512
    omega

theorem src_set (i : Fin 64) : (srcRow i).view.set = srcSet i := View.set_slice_whole _ _
theorem dst_set (i : Fin 64) : (dstRow i).view.set = dstSet i := View.set_slice_whole _ _

/-- Copy `i` reads, for each element of its row of the result, the element `srcIdx` names. -/
theorem src_emb (i : Fin 64) (y : S1x512.Idx) : (srcRow i).view.emb y = srcIdx ((dstRow i).view.emb y) := by
  have h0 : (y 0).val = 0 := by have : (y 0).val < 1 := (y 0).isLt; omega
  funext a
  match a with
  | 0 =>
    apply Fin.ext
    show 1543 * i.val + 1 * (y 0).val = 1543 * (i.val + 1 * (y 0).val)
    omega
  | 1 => rfl

/-- Copy `i` leaves its row of the result at the gathered contents. -/
theorem row_lands (i : Fin 64) (fo : S64x512.Idx → Elt F .f32) (x : S100000x512.Idx → Elt F .f32) :
    ∀ j ∈ dstSet i, (dstRow i).view.write (Elt F) fo ((srcRow i).view.read (Elt F) x) Finset.univ j = gathered x j := by
  intro j hj
  rw [← dst_set, View.set, Finset.mem_map] at hj
  obtain ⟨y, -, rfl⟩ := hj
  rw [View.write_emb_of_mem _ _ (Finset.mem_univ y)]
  show x ((srcRow i).view.emb y) = x (srcIdx ((dstRow i).view.emb y))
  rw [src_emb]

/-! ## The resource algebra and the launch memory -/

abbrev UH : Type := URounds (GSem nD τ sig) ℕ
/-- The handshakes' rounds library beside the transfers' counters. -/
abbrev UU : Type := UH × Counters

local notation "𝕄" => MT nD τ sig (HIx 1) (Elt F) ℕ UU ℕ

abbrev 𝒱₀ : Variants := Variants.none

variable (m : (ℓ : Loc nD τ sig) → Buf (Elt F) ℓ)

/-- The table and the result. -/
abbrev xLoc (d : Dev nD) : Loc nD τ sig := (SparseCore.T d).loc main_arg0
abbrev oLoc (d : Dev nD) : Loc nD τ sig := (SparseCore.T d).loc main_v0

/-- What the result holds after the call. -/
abbrev G (d : Dev nD) : Buf (Elt F) (oLoc d) := gathered (α := Elt F .f32) (m (xLoc d))

abbrev xPts (d : Dev nD) : sProp 𝕄 := xLoc d ↦{fullShare} m (xLoc d)
abbrev oPts (d : Dev nD) (f : Buf (Elt F) (oLoc d)) : sProp 𝕄 := oLoc d ↦{fullShare} f

/-- The table's elements in no copied row. -/
abbrev restSet : Finset S100000x512.Idx := Finset.univ \ (Finset.univ : Finset (Fin 64)).biUnion srcSet

/-- Row `1543 * i` of the table; row `i` of the result at `f`; the table's other elements. -/
abbrev srcPts (d : Dev nD) (i : Fin 64) : sProp 𝕄 := xLoc d ↦[srcSet i]{fullShare} m (xLoc d)
abbrev dstPts (d : Dev nD) (f : Buf (Elt F) (oLoc d)) (i : Fin 64) : sProp 𝕄 := oLoc d ↦[dstSet i]{fullShare} f
abbrev restPts (d : Dev nD) : sProp 𝕄 := xLoc d ↦[restSet]{fullShare} m (xLoc d)

/-- Copy `i`'s delivery: its row of the result gathered, its row of the table back. -/
abbrev DL (d : Dev nD) (i : Fin 64) : sProp 𝕄 := iprop(dstPts d (G m d) i ∗ srcPts m d i)

/-- The table whole is its copied rows and its other elements. -/
theorem x_rows (d : Dev nD) : xPts m d ⊣⊢ iprop((bigSep Finset.univ (srcPts m d)) ∗ restPts m d) := by
  rw [show bigSep Finset.univ (srcPts m d) = (xLoc d ↦[(Finset.univ : Finset (Fin 64)).biUnion srcSet]{fullShare} m (xLoc d) : sProp 𝕄)
    from (pointsTo_biUnion (ℓ := xLoc d) Finset.univ srcSet fun _ _ _ _ h => srcSet_disjoint h).symm]
  exact pointsTo_split_subset (ℓ := xLoc d) (Finset.subset_univ _)

/-- The result whole is its rows. -/
theorem o_rows (d : Dev nD) (f : Buf (Elt F) (oLoc d)) : oPts d f = bigSep Finset.univ (dstPts d f) := by
  exact (congrArg (fun I : Finset S64x512.Idx => (oLoc d ↦[I]{fullShare} f : sProp 𝕄)) dstSet_cover).symm.trans
    (pointsTo_biUnion (ℓ := oLoc d) Finset.univ dstSet fun _ _ _ _ h => dstSet_disjoint h)

/-- The units one copy credits the semaphore with. -/
abbrev N0 : ℕ := (dstRow 0).view.dmaCredit
theorem N0_pos : 0 < N0 := View.dmaCredit_pos _ (by decide)

/-- The batch of the 64 copies on sequencer `c`'s semaphore, `k` issued and `u` units waited for. -/
abbrev B (d : Dev nD) (c : Fin τ.nSC) (k u : ℕ) : sProp 𝕄 :=
  Batch countersEmb (S d c) (.dma cc0_scratch0.sem) (none : HIx 1) N0 (DL m d) k u

variable [FloatOps F]

/-- The issues: from the batch with all but the last `n` issued, and the rows those read and write, the last `n` are issued
    and `rest` runs from the batch with all 64 issued. -/
theorem wp_issues (d : Dev nD) (c : Fin τ.nSC) (fo : Buf (Elt F) (oLoc d)) (rest : ScProg F c) (Q : PUnit → sProp 𝕄) :
    ∀ (n : ℕ) (hn : n ≤ 64),
      iprop(B m d c (64 - n) 0 ∗ (bigSep (pending (64 - n)) (srcPts m d)) ∗ (bigSep (pending (64 - n)) (dstPts d fo)))
        ⊢ iprop((B m d c 64 0 -∗ wp frame (wpE (defs₀ (F := F)) 𝒱₀ (S d c) none) Set.univ rest Q)
            -∗ wp frame (wpE (defs₀ (F := F)) 𝒱₀ (S d c) none) Set.univ (issues c rest n hn) Q)
  | 0, _ => by
    unfold issues
    iintro ⟨HB, -, -⟩ Hk
    iapply Hk
    iexact HB
  | n + 1, hn => by
    have hk : 64 - (n + 1) < 64 := by omega
    have e : 64 - (n + 1) + 1 = 64 - n := by omega
    unfold issues
    rw [bigSep_pending_step (srcPts m d) _ hk, bigSep_pending_step (dstPts d fo) _ hk]
    iintro ⟨HB, ⟨Hs, Hss⟩, Hd, Hds⟩ Hk
    iapply (Transfers.wp_dmaBatch countersEmb 𝒱₀ (S d c) none (src := srcRow ⟨64 - (n + 1), hk⟩) (dst := dstRow ⟨64 - (n + 1), hk⟩)
        (q := fullShare) (fs := m (xLoc d)) (fd := fo) (Sd := dstSet ⟨64 - (n + 1), hk⟩) (D := DL m d)
        (none : HIx 1) N0 rfl (dst_set _).subset hk (Nat.zero_le _) ?hD) $$ [HB Hs Hd]
    case hD =>
      rw [src_set]
      exact sep_mono (Entails.of_eq (pointsTo_congr (row_lands _ _ _))) .rfl
    · rw [src_set]
      isplitl [Hs]; · iexact Hs
      isplitl [Hd]; · iexact Hd
      iexact HB
    rw [e]
    iintro HB
    iapply (wp_issues d c fo rest Q n _) $$ [HB Hss Hds]
    · isplitl [HB]; · iexact HB
      isplitl [Hss] <;> iassumption
    iexact Hk

/-- The waits: from the batch with all 64 issued and all but the last `n + 1` waited for, the sequencer owing `O` at no
    cell's index `none`, the last `n + 1` waits hand back every delivery and the semaphore's counter at zero. -/
theorem wp_waits (d : Dev nD) (c : Fin τ.nSC) {O : CellTallies nD τ sig (HIx 1)} (hO : ∀ g, O g none = 0) (W : Waits sig (HIx 1)) :
    ∀ (n : ℕ) (hn : n + 1 ≤ 64) (W₁ : Waits sig (HIx 1)) (_ : ∀ p ∈ W₁, p ∈ W ∨ p.2 = none),
      iprop(levAts (sc (F := F)).L (sc (F := F)).lev ∗ B m d c 64 ((64 - (n + 1)) * N0) ∗ owes (S d c) O W₁)
        ⊢ wp frame (wpE (defs₀ (F := F)) 𝒱₀ (S d c) none) Set.univ (waits c (n + 1) hn)
            fun _ => iprop((bigSep Finset.univ (DL m d)) ∗ semVal (S d c, .dma cc0_scratch0.sem) 0
              ∗ ∃ W', ⌜∀ p ∈ W', p ∈ W ∨ p.2 = none⌝ ∗ owes (S d c) O W')
  | 0, _, W₁, hW₁ => by
    simp only [waits]
    iintro ⟨#Hlv, HB, HO⟩
    iapply (Transfers.wp_waitBatchLastO countersEmb 𝒱₀ (S d c) none (none : HIx 1) (N := N0) (dstw := dstRow ⟨64 - (0 + 1), _⟩) rfl N0_pos
        (D := DL m d) (u := (64 - (0 + 1)) * N0) (by omega)) $$ [HB HO]
    · isplitl [HB]; · iexact HB
      isplitl [HO]; · iexact HO
      iapply ((sc (F := F)).mayWait_none (SemLoc.dma cc0_scratch0.sem) hO); iexact Hlv
    iintro ⟨HD, Hv, HO⟩
    rw [wp_ret]; imodintro
    isplitl [HD]; · iexact HD
    isplitl [Hv]; · iexact Hv
    iexists (insert (SemLoc.dma cc0_scratch0.sem, none) W₁); isplitr
    · ipureintro; intro p hp
      rcases Finset.mem_insert.mp hp with rfl | hp
      · exact .inr rfl
      · exact hW₁ p hp
    iexact HO
  | n + 1, hn, W₁, hW₁ => by
    have e : (64 - (n + 1 + 1)) * N0 + N0 = (64 - (n + 1)) * N0 := by
      rw [← Nat.succ_mul]; congr 1; omega
    have hu : (64 - (n + 1 + 1)) * N0 + N0 < N0 * 64 := by
      rw [e, Nat.mul_comm N0 64]; exact Nat.mul_lt_mul_of_pos_right (by omega) N0_pos
    rw [waits]
    iintro ⟨#Hlv, HB, HO⟩
    iapply (Transfers.wp_waitBatchO countersEmb 𝒱₀ (S d c) none (none : HIx 1) (N := N0) (dstw := dstRow ⟨64 - (n + 1 + 1), _⟩) rfl
        (D := DL m d) (u := (64 - (n + 1 + 1)) * N0) hu) $$ [HB HO]
    · isplitl [HB]; · iexact HB
      isplitl [HO]; · iexact HO
      iapply ((sc (F := F)).mayWait_none (SemLoc.dma cc0_scratch0.sem) hO); iexact Hlv
    rw [e]
    iintro ⟨HB, HO⟩
    iapply (wp_waits d c hO W n _ (insert (SemLoc.dma cc0_scratch0.sem, none) W₁) fun p hp => by
      rcases Finset.mem_insert.mp hp with rfl | hp
      · exact .inr rfl
      · exact hW₁ p hp)
    isplitr; · iexact Hlv
    isplitl [HB] <;> iassumption

/-- The semaphore's counter is one of the sequencer's own. -/
theorem ownSems0_cell (d : Dev nD) (c : Fin τ.nSC) :
    (ownSems0 (S d c) : sProp 𝕄) = iprop(semVal (S d c, .dma cc0_scratch0.sem) 0
      ∗ bigSep ((ownCells (S d c)).erase (S d c, .dma cc0_scratch0.sem)) fun g => semVal g 0) := by
  unfold SparseCore.Cfg.ownSems0
  exact SparseCore.bigSep_erase' ((mem_ownCells (g := (S d c, .dma cc0_scratch0.sem))).mpr
    ⟨rfl, by show (SemLoc.dma cc0_scratch0.sem : SemLoc sig).isScoped .scScalar = true; decide⟩)

/-- The kernel on a sequencer: from the table at its launch contents and the result at anything, to the table unchanged
    and the result at the gathered rows, the sequencer's buffers, counters and debts as they were. -/
theorem gather_body (d : Dev nD) (L : grid0.Coords) (O : CellTallies nD τ sig (HIx 1)) (W : Waits sig (HIx 1)) (hO : ∀ g, O g none = 0) :
    iprop(levAts (sc (F := F)).L (sc (F := F)).lev ∗ emp ∗ (xPts m d ∗ ∃ f, oPts d f)
        ∗ scopedBufs (S d ((L 0).castLE hcore0)) ∗ scopedSems0 (S d ((L 0).castLE hcore0)) ∗ owes (S d ((L 0).castLE hcore0)) O W)
      ⊢ wp frame (wpE (defs₀ (F := F)) 𝒱₀ (S d ((L 0).castLE hcore0)) none) Set.univ
          (cc0_sc_gather L xM (Memref.isWhole_whole _) oM (Memref.isWhole_whole _) cc0_scratch0)
          fun _ => iprop((xPts m d ∗ oPts d (G m d)) ∗ scopedBufs (S d ((L 0).castLE hcore0)) ∗ scopedSems0 (S d ((L 0).castLE hcore0))
            ∗ ∃ W', ⌜∀ p ∈ W', p ∈ W ∨ p.2 = none⌝ ∗ owes (S d ((L 0).castLE hcore0)) O W') := by
  rw [gather_eq]
  generalize (L 0).castLE hcore0 = c
  iintro ⟨#Hlv, -, ⟨Hx, %fo, Ho⟩, Hsb, Hss, HO⟩
  ihave Hss' := (SparseCore.Cfg.scopedSems0_S_elim (Val := Elt F) d c) $$ Hss
  icases Hss' with ⟨Hown, Hsubs⟩
  ihave Hown' := (Entails.of_eq (ownSems0_cell (F := F) d c)) $$ Hown
  icases Hown' with ⟨Hsem, Hrest⟩
  ihave Hx' := (x_rows m d).1 $$ Hx
  icases Hx' with ⟨Hxs, Hxr⟩
  ihave Hxs := (Entails.of_eq (bigSep_pending_zero (srcPts m d))) $$ Hxs
  ihave Hos := (Entails.of_eq ((o_rows d fo).trans (bigSep_pending_zero (dstPts d fo)))) $$ Ho
  imod (Transfers.batch_alloc' countersEmb (S d c) (none : HIx 1) N0 (DL m d) (E := Set.univ)) $$ Hsem with HB
  iapply (wp_issues m d c fo (waits c 64 le_rfl) _ 64 le_rfl) $$ [HB Hxs Hos]
  · isplitl [HB]; · iexact HB
    isplitl [Hxs] <;> iassumption
  iintro HB
  ihave HB := (Entails.of_eq (show B m d c 64 0 = B m d c 64 ((64 - (63 + 1)) * N0) by rw [Nat.sub_self, Nat.zero_mul])) $$ HB
  iapply (wp_wand frame (wpE (defs₀ (F := F)) 𝒱₀ (S d c) none) Set.univ) $$ [HB HO]
  · iapply (wp_waits m d c hO W 63 le_rfl W fun _ hp => .inl hp)
    isplitr; · iexact Hlv
    isplitl [HB] <;> iassumption
  iintro %_ ⟨HD, Hsem, HO⟩
  ihave HD' := (Entails.of_eq (bigSep_sep' Finset.univ (dstPts d (G m d)) (srcPts m d))) $$ HD
  icases HD' with ⟨Hos, Hxs⟩
  isplitl [Hos Hxs Hxr]
  · isplitl [Hxs Hxr]
    · iapply (x_rows m d).2; isplitl [Hxs] <;> iassumption
    iapply (Entails.of_eq (o_rows d (G m d)).symm); iexact Hos
  isplitl [Hsb]; · iexact Hsb
  isplitr [HO]
  · iapply (SparseCore.Cfg.scopedSems0_S_intro (Val := Elt F) d c)
    isplitl [Hsem Hrest]
    · rw [ownSems0_cell]; isplitl [Hsem] <;> iassumption
    · iexact Hsubs
  iexact HO

end Cert.Proof.Gather

end
-- ==== Proof.Launch.lean ====
/-
  The run of the program: @main starts the one scalar-subcore kernel and waits for it. The call takes the table and the
  result to SparseCore 0's sequencer and brings them back, the result holding the gathered rows (Proof/Body.lean
  `gather_body`); the launch theorem (Lib/SparseCore/Quiescent.lean) makes of it that every weakly fair execution of the
  device's threads terminates with nothing faulting, the table unchanged, the result at the gathered rows and every
  semaphore counter at zero. Stated for any float values and operations, so each claim takes it at its own.
-/
module

public import proofs.«01_k».proof.Proof.Body

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

/-- The launch semaphores are distinct and none is scoped where it is used, and no SparseCore buffer is shared by tasks. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds library, the left factor of the algebra. -/
abbrev EH : Emb UH (MT nD τ sig (HIx 1) (Elt F) ℕ UU ℕ) := embL

variable (m : (ℓ : Loc nD τ sig) → Buf (Elt F) ℓ) (ρ : Dev nD → PrngReg)

/-- The call takes the table and the result (at anything) to the sequencer and brings them back, the result gathered. -/
def P : (K (F := F)).Pay (nD := nD) (Val := Elt F) (Name := ℕ) (U := UU) where
  st := fun _ d _ => iprop(xPts m d ∗ ∃ f, oPts d f)
  dn := fun _ d _ => iprop(xPts m d ∗ oPts d (G m d))
  go := fun _ _ _ _ => iprop(emp)
  td := fun _ _ _ _ => iprop(emp)
  x := fun _ _ => iprop(emp)

instance P_storable : (P (F := F) m).IsStorable where
  st _ d _ := (inferInstance : BI.Storable (upEmb : UEmb _ 𝕄) iprop(xPts m d ∗ ∃ f, oPts d f))
  dn _ d _ := (inferInstance : BI.Storable (upEmb : UEmb _ 𝕄) iprop(xPts m d ∗ oPts d (G m d)))
  go _ _ _ _ := (inferInstance : BI.Storable (upEmb : UEmb _ 𝕄) (iprop(emp) : sProp 𝕄))
  td _ _ _ _ := (inferInstance : BI.Storable (upEmb : UEmb _ 𝕄) (iprop(emp) : sProp 𝕄))

/-! ## The sequencer's obligation -/

variable [FloatOps F]

/-- The grid point of SparseCore `c`. -/
def coords (c : Fin (grid0.bound 0)) : grid0.Coords := fun
  | 0 => c
  | ⟨_ + 1, h⟩ => absurd h (Nat.not_lt.2 (Nat.le_add_left _ _))

theorem defs₀_scalar (c : Fin τ.nSC) :
    defs₀ (F := F) (.scScalar c) 0 ()
      = SparseCore.onCore hcore0 (fun c => cc0_sc_gather (coords c) xM (Memref.isWhole_whole _) oM (Memref.isWhole_whole _) cc0_scratch0) ⟨⟩ c := rfl

omit [FloatOps F] in
/-- Waits recorded at index `none` are among those the launch allows at call `q`. -/
theorem owes_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  have h : (iprop(∃ W', ⌜∀ p ∈ W', p ∈ W ∨ p.2 = none⌝ ∗ owes thr O W') : sProp 𝕄)
      ⊢ iprop(∃ W', ⌜∀ p ∈ W', p ∈ W ∨ p.2 = none ∨ p.2 = some q⌝ ∗ owes thr O W') := by
    iintro ⟨%W', %hW', HO⟩
    iexists W'; isplitr
    · ipureintro; exact fun p hp => (hW' p hp).imp_right Or.inl
    iexact HO
  exact BI.sep_mono_r (BI.sep_mono_r (BI.sep_mono_r h))

set_option maxRecDepth 20000 in
/-- Call 0's sequencer, started with the table and the result, hands them back with the result gathered. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (gather_body m d (coords ⟨_, hc⟩) O W hO).trans (wp_mono frame _ _ fun _ => owes_weaken)

/-! ## The launch's ghost state: the handshakes' alone -/

def u₀ : UU := (initOf (K (F := F)).hsCells (K (F := F)).hsToks, 1)

/-- The launch element is the handshakes'; the kernel is dealt nothing. -/
theorem launch_element : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_emp_const _).trans (bigSep_emp_const _)
  rw [hx, show (bigSep Finset.univ fun _ : Dev nD => (iprop(emp) : sProp 𝕄)) = iprop(emp) from bigSep_emp_const _]
  unfold u₀
  iintro Hu
  ihave H := (ownU_pair _ _) $$ Hu
  icases H with ⟨HH, -⟩
  imodintro
  isplitl [HH]; · iexact HH
  isplitr <;> iempintro

/-! ## @main on the TensorCore -/

omit [FloatOps F] in
/-- The TensorCore's arrays are the table and the result. -/
theorem arrays_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

omit [FloatOps F] in
theorem st_eq (d : Dev nD) : (bigSep Finset.univ fun c : Fin ((K (F := F)).nCore 0) => (P m).st 0 d c) = iprop(xPts m d ∗ ∃ f, oPts d f) :=
  bigSep_univ_of_subsingleton (0 : Fin 1)
omit [FloatOps F] in
theorem dn_eq (d : Dev nD) : (bigSep Finset.univ fun c : Fin ((K (F := F)).nCore 0) => (P m).dn 0 d c) = iprop(xPts m d ∗ oPts d (G m d)) :=
  bigSep_univ_of_subsingleton (0 : Fin 1)

/-- What @main leaves: the table at its launch contents, the result at the gathered rows. -/
abbrev FIN (d : Dev nD) : sProp 𝕄 := iprop(xPts m d ∗ oPts d (G m d))

/-- @main is the call: the table and the result go to the sequencer and come back. -/
theorem main_wp (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st_eq]
    isplitl [Hx]; · iexact Hx
    iexists _; iexact Ho
  iintro ⟨Hst, Hdn⟩
  ihave Hdn := (Entails.of_eq (dn_eq m d)) $$ Hdn
  imodintro
  isplitl [Hst]; · iexact Hst
  isplitl [Hdn]; · iexact Hdn
  isplitl [Hb] <;> iassumption

/-- What the claims read of device `d`'s final memory. -/
def Final (d : Dev nD) (s : Phys nD τ sig (Elt F)) : Prop := s.mem.mem (oLoc d) = G m d ∧ s.mem.mem (xLoc d) = m (xLoc d)

omit [FloatOps F] in
theorem final_of_fin (d : Dev nD) (s : Phys nD τ sig (Elt F)) : iprop(FIN m d ∗ SI s) ⊢ (⌜Final m d s⌝ : sProp 𝕄) := by
  iintro ⟨⟨Hx, Ho⟩, HSI⟩
  ihave H := (persistent_entails_right (SI_pointsTo_agree (st := s) (ℓ := xLoc d) (I := Finset.univ) (q := fullShare) (f := m (xLoc d)))) $$ [HSI Hx]
  · isplitl [HSI] <;> iassumption
  icases H with ⟨%hx, HSI, -⟩
  ihave H := (SI_pointsTo_agree (st := s) (ℓ := oLoc d) (I := Finset.univ) (q := fullShare) (f := G m d)) $$ [HSI Ho]
  · isplitl [HSI] <;> iassumption
  icases H with %ho
  ipureintro; exact ⟨funext fun i => ho i (Finset.mem_univ i), funext fun i => hx i (Finset.mem_univ i)⟩

/-! ## The run -/

/-- Every weakly fair execution ends with, on every device, the result at the gathered rows of the table and the table
    unchanged, and with every semaphore counter at zero. -/
theorem run_main [∀ e, Nonempty (Elt F e)] :
    θ_run (Cert.KernelIdeal.defs (F := F)) (Cert.KernelIdeal.threads (F := F)) ⟨m, fun _ => 0, ρ⟩
      fun r => (∀ c : Dev nD, r.2.mem (oLoc c) = G m c ∧ r.2.mem (xLoc c) = m (xLoc c)) ∧ r.2.sem = fun _ => 0 :=
  SparseCore.Cfg.θ_run_sc_quiescent (K := K (F := F)) (D := D (F := F)) (𝒱 := 𝒱) (EH := EH) (P := P m) (A := ∅) launch_facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (launch_element m)) (main_wp m ρ)
    (Final m) (final_of_fin m) _ (fun _ h hz => ⟨h, hz⟩)

end Cert.Proof.Gather

end
-- ==== Proof.RefValue.lean ====
/-
  What the reference computes: its composed term is the 64 rows of the table numbered by the multiples of 1543. The row
  numbers are the iota times 1543, all in `[0, 97209]`; so the wrap of a negative number changes none of them, the
  in-range mask is everywhere 1, and the gather's clamp changes none of them either.
-/
module

public import proofs.«01_k».proof.Proof.Body
public import proofs.«01_k».proof.Proof.Gen.ReferenceIdeal
public import Idealize.ShloMosaic.Lib.Routing.Ops
public import Idealize.ShloMosaic.Lib.ReduceAll

@[expose] public section

noncomputable section

namespace Cert.Proof.Gather

open Cert.ReferenceIdeal Cert.ReferenceIdeal.Gen
open Idealize.ShloMosaic Idealize.ShloMosaic.ValueIdx

/-- The reference's index list: the iota times 1543, as 32-bit words. -/
abbrev field : IVec S64 32 := muli (iotaInDim S64 32 0) (broadcastInDim S64 ![] bcast_S_S64 (constantI S_ 32 1543#32))

/-- The row numbers the reference gathers at: the index list with 100000 added to its negative numbers, as a column. -/
abbrev rowNo : IVec S64x1 32 :=
  broadcastInDim S64x1 ![0] bcast_S64_S64x1_0
    (select (cmpi .slt field (broadcastInDim S64 ![] bcast_S_S64 (constantI S_ 32 0#32)))
      (addi field (broadcastInDim S64 ![] bcast_S_S64 (constantI S_ 32 100000#32))) field)

/-- Which of the row numbers lie in the table: at least 0 and at most 99999, one bit each. -/
abbrev inTable : IVec S64x1 1 :=
  andi (cmpi .sge rowNo (broadcastInDim S64x1 ![] bcast_S_S64x1 (constantI S_ 32 0#32)))
    (cmpi .sle rowNo (broadcastInDim S64x1 ![0, 1] bcast_S1x1_S64x1_0_1
      (broadcastInDim S1x1 ![1] bcast_S1_S1x1_1 (constantI S1 32 99999#32))))

/-- The word `1543 * i` for `i < 64`: not negative, so kept by the wrap; and the number it stands for is in the table. -/
theorem word_wrap : ∀ i : Fin 64,
    Scalar.select (IntOp.cmpi .slt (BitVec.ofNat 32 i.val * 1543#32) 0#32) (BitVec.ofNat 32 i.val * 1543#32 + 100000#32)
      (BitVec.ofNat 32 i.val * 1543#32) = BitVec.ofNat 32 (1543 * i.val) := by decide

/-- The word `1543 * i` for `i < 64` passes both of the reference's bounds checks. -/
theorem word_in : ∀ i : Fin 64,
    IntOp.andi (IntOp.cmpi .sge (BitVec.ofNat 32 (1543 * i.val)) 0#32) (IntOp.cmpi .sle (BitVec.ofNat 32 (1543 * i.val)) 99999#32)
      = 1#1 := by decide

/-- Row number `i` is `1543 * i`. -/
theorem rowNo_apply (i : Fin 64) (k : Fin 1) : rowNo (ix2 i k) = BitVec.ofNat 32 (1543 * i.val) := word_wrap i

/-- Every row number is in the table. -/
theorem inTable_apply (q : S64x1.Idx) : inTable q = 1#1 := by
  obtain ⟨i, k, rfl⟩ : ∃ (i : Fin 64) (k : Fin 1), q = ix2 i k := ⟨q 0, q 1, eq_ix2 q⟩
  show IntOp.andi (IntOp.cmpi .sge (rowNo (ix2 i k)) 0#32) (IntOp.cmpi .sle (rowNo (ix2 i k)) 99999#32) = 1#1
  rw [rowNo_apply]
  exact word_in i

/-- The reference's gather, at an index: the table's element there, row `1543 * i` of the same column. -/
theorem gather_rowNo {α : Type} (x : S100000x512.Idx → α) (j : S64x512.Idx) :
    Host.gather gather_S100000x512_S64x1_S64x512_1_0_n_n_0_1_1512 x rowNo j = gathered x j := by
  obtain ⟨i, k, rfl⟩ : ∃ (i : Fin 64) (k : Fin 512), j = ix2 i k := ⟨j 0, j 1, eq_ix2 j⟩
  have hlt : 1543 * i.val < 100000 := by have := i.isLt; omega
  refine (Routing.gather_row gather_S100000x512_S64x1_S64x512_1_0_n_n_0_1_1512 rfl rfl rfl rfl rfl x rowNo i k
    ⟨1543 * i.val, hlt⟩ (rowNo_apply i 0) (by norm_num)).trans ?_
  refine congrArg x (funext fun a => ?_)
  match a with
  | ⟨0, _⟩ => rfl
  | ⟨1, _⟩ => rfl

/-- THE REFERENCE'S VALUE: where the row numbers are in the table (everywhere) the gathered rows, and the filler `z` nowhere —
    the table's rows numbered by the multiples of 1543. -/
theorem ref_value {α : Type} (x : S100000x512.Idx → α) (z : S64x512.Idx → α) :
    select (broadcastInDim S64x512 ![0] bcast_S64_S64x512_0
        (Host.reduce IntOp.andi inTable (constantI S_ 1 1#1) reducesTo_S64x1_S64_d1 h_S_))
      (Host.gather gather_S100000x512_S64x1_S64x512_1_0_n_n_0_1_1512 x rowNo) z = gathered x := by
  funext j
  have hmask : broadcastInDim S64x512 ![0] bcast_S64_S64x512_0
      (Host.reduce IntOp.andi inTable (constantI S_ 1 1#1) reducesTo_S64x1_S64_d1 h_S_) j = 1#1 :=
    Host.reduce_andi_one inTable _ _ _ _ rfl inTable_apply
  show Scalar.select _ _ _ = _
  rw [hmask]
  exact gather_rowNo x j

end Cert.Proof.Gather

end
-- ==== Proof.lean ====
/-
  The claims about the gather: the frames of the kernel and the reference, each over machine floats and over extended
  reals, and the two value claims. Both of the kernel's frames and both value claims read one run of it (Proof/Launch.lean);
  the reference's value is Proof/RefValue.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem Cert.Proof.Gather

/-- The kernel over extended reals runs, keeps its table and ends with every counter at zero: `run_main` (Proof/Launch.lean). -/
theorem frame_kernelIdeal : Cert.quiescent_KernelIdeal := fun m ρ _ =>
  (θ_run Cert.KernelIdeal.defs _ _).mono (fun _ h => ⟨fun c => (h.1 c).2, h.2⟩) (run_main (F := Ideal) m ρ)

/-- The kernel over machine floats is the same text, so the same run at `F := Bits` is its frame. -/
theorem frame_kernel : Cert.quiescent_Kernel := fun m ρ _ =>
  (θ_run Cert.KernelIdeal.defs _ _).mono (fun _ h => ⟨fun c => (h.1 c).2, h.2⟩) (run_main (F := Bits) m ρ)

/-- The reference over extended reals runs and keeps its table; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference over machine floats runs and keeps its table; it declares no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over extended reals the kernel and the reference end with the same result, the table's rows numbered by the multiples of
    1543: the kernel by its run, the reference by its composed term's value (`ref_value`). -/
theorem algebraic : Cert.algebraic_KernelIdeal_ReferenceIdeal := fun m ρ m' ρ' _ hag =>
  ⟨fun c => G m c, (θ_run Cert.KernelIdeal.defs _ _).mono (fun _ h => h.1) (run_main (F := Ideal) m ρ),
    (θ_run Cert.ReferenceIdeal.defs _ _).mono
      (fun _ h c => ⟨(h c).1.trans ((ref_value _ _).trans (congrArg (gathered (α := Elt Ideal .f32)) (hag c))), (h c).2⟩)
      (Cert.ReferenceIdeal.Value.run (F := Ideal) m' ρ')⟩

/-- Over machine floats the kernel and the reference end with the same result bit for bit: the same two runs, read there. -/
theorem bitexact : Cert.bitexact_Kernel_Reference := fun m ρ m' ρ' _ hag =>
  ⟨fun c => G (F := Bits) m c, (θ_run Cert.KernelIdeal.defs _ _).mono (fun _ h => h.1) (run_main (F := Bits) m ρ),
    (θ_run Cert.Reference.defs _ _).mono
      (fun _ h c => ⟨(h c).1.trans ((ref_value _ _).trans (congrArg (gathered (α := Elt Bits .f32)) (hag c))), (h c).2⟩)
      (Cert.Reference.Value.run (F := Bits) m' ρ')⟩

/-- Everything claimed. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
